-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x64x64 : Shape := ⟨4, ![8, 128, 64, 64]⟩
abbrev S8x128x4096 : Shape := ⟨3, ![8, 128, 4096]⟩
abbrev S8x128x128x1024 : Shape := ⟨4, ![8, 128, 128, 1024]⟩
abbrev S1x128x1024 : Shape := ⟨3, ![1, 128, 1024]⟩
abbrev S1x128x128x256 : Shape := ⟨4, ![1, 128, 128, 256]⟩
abbrev S128x1024 : Shape := ⟨2, ![128, 1024]⟩
abbrev S1x128 : Shape := ⟨2, ![1, 128]⟩
abbrev S128x128 : Shape := ⟨2, ![128, 128]⟩
abbrev S128x128x1 : Shape := ⟨3, ![128, 128, 1]⟩
abbrev S4x128 : Shape := ⟨2, ![4, 128]⟩
abbrev S4x1x128 : Shape := ⟨3, ![4, 1, 128]⟩
abbrev S1x128x128 : Shape := ⟨3, ![1, 128, 128]⟩
abbrev S4x128x128 : Shape := ⟨3, ![4, 128, 128]⟩
abbrev S1x4x128x128 : Shape := ⟨4, ![1, 4, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S8x128x64x64, .f32⟩
  | .hbm, ⟨1, _⟩ => ⟨S8x128x4096, .f32⟩
  | .hbm, ⟨2, _⟩ => ⟨S8x128x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x128x256, .f32⟩
  | .local _ .vmem, ⟨3, _⟩ => ⟨S1x128x128x256, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x128x64x64 : Shape := ⟨4, ![8, 128, 64, 64]⟩
abbrev S8x128x32x2x32x2 : Shape := ⟨6, ![8, 128, 32, 2, 32, 2]⟩
abbrev S8x128x32x32x2x2 : Shape := ⟨6, ![8, 128, 32, 32, 2, 2]⟩
abbrev S8x128x32x32x4 : Shape := ⟨5, ![8, 128, 32, 32, 4]⟩
abbrev S_ : Shape := ⟨0, ![]⟩
abbrev S8x128x32x32 : Shape := ⟨4, ![8, 128, 32, 32]⟩
abbrev S32 : Shape := ⟨1, ![32]⟩
abbrev S1x1x32x1 : Shape := ⟨4, ![1, 1, 32, 1]⟩
abbrev S1x1x1x32 : Shape := ⟨4, ![1, 1, 1, 32]⟩
abbrev S8x128x1024 : Shape := ⟨3, ![8, 128, 1024]⟩
abbrev S8x128x4096 : Shape := ⟨3, ![8, 128, 4096]⟩
abbrev S8x128x1024x1 : Shape := ⟨4, ![8, 128, 1024, 1]⟩
abbrev S8x128x128x1024 : Shape := ⟨4, ![8, 128, 128, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x128x64x64, .f32⟩
  | .hbm, ⟨1, _⟩ => ⟨S8x128x32x2x32x2, .f32⟩
  | .hbm, ⟨2, _⟩ => ⟨S8x128x32x32x2x2, .f32⟩
  | .hbm, ⟨3, _⟩ => ⟨S8x128x32x32x4, .f32⟩
  | .hbm, ⟨4, _⟩ => ⟨S8x128x32x32x4, .i32⟩
  | .hbm, ⟨5, _⟩ => ⟨S_, .f32⟩
  | .hbm, ⟨6, _⟩ => ⟨S_, .i32⟩
  | .hbm, ⟨7, _⟩ => ⟨S8x128x32x32, .f32⟩
  | .hbm, ⟨8, _⟩ => ⟨S8x128x32x32, .i32⟩
  | .hbm, ⟨9, _⟩ => ⟨S_, .i32⟩
  | .hbm, ⟨10, _⟩ => ⟨S_, .i32⟩
  | .hbm, ⟨11, _⟩ => ⟨S8x128x32x32, .i32⟩
  | .hbm, ⟨12, _⟩ => ⟨S8x128x32x32, .i32⟩
  | .hbm, ⟨13, _⟩ => ⟨S8x128x32x32, .i32⟩
  | .hbm, ⟨14, _⟩ => ⟨S_, .i32⟩
  | .hbm, ⟨15, _⟩ => ⟨S8x128x32x32, .i32⟩
  | .hbm, ⟨16, _⟩ => ⟨S8x128x32x32, .i1⟩
  | .hbm, ⟨17, _⟩ => ⟨S8x128x32x32, .i32⟩
  | .hbm, ⟨18, _⟩ => ⟨S8x128x32x32, .i32⟩
  | .hbm, ⟨19, _⟩ => ⟨S_, .i32⟩
  | .hbm, ⟨20, _⟩ => ⟨S8x128x32x32, .i32⟩
  | .hbm, ⟨21, _⟩ => ⟨S8x128x32x32, .i1⟩
  | .hbm, ⟨22, _⟩ => ⟨S8x128x32x32, .i1⟩
  | .hbm, ⟨23, _⟩ => ⟨S_, .i32⟩
  | .hbm, ⟨24, _⟩ => ⟨S8x128x32x32, .i32⟩
  | .hbm, ⟨25, _⟩ => ⟨S8x128x32x32, .i32⟩
  | .hbm, ⟨26, _⟩ => ⟨S8x128x32x32, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S8x128x32x32, .i32⟩
  | .hbm, ⟨34, _⟩ => ⟨S8x128x32x32, .i32⟩
  | .hbm, ⟨35, _⟩ => ⟨S_, .i32⟩
  | .hbm, ⟨36, _⟩ => ⟨S8x128x32x32, .i32⟩
  | .hbm, ⟨37, _⟩ => ⟨S8x128x32x32, .i1⟩
  | .hbm, ⟨38, _⟩ => ⟨S_, .i32⟩
  | .hbm, ⟨39, _⟩ => ⟨S8x128x32x32, .i32⟩
  | .hbm, ⟨40, _⟩ => ⟨S8x128x32x32, .i1⟩
  | .hbm, ⟨41, _⟩ => ⟨S_, .i32⟩
  | .hbm, ⟨42, _⟩ => ⟨S_, .i1⟩
  | .hbm, ⟨43, _⟩ => ⟨S8x128x32x32, .i1⟩
  | .hbm, ⟨44, _⟩ => ⟨S8x128x32x32, .i1⟩
  | .hbm, ⟨45, _⟩ => ⟨S8x128x32x32, .i1⟩
  | .hbm, ⟨46, _⟩ => ⟨S8x128x32x32, .i32⟩
  | .hbm, ⟨47, _⟩ => ⟨S8x128x32x32, .i32⟩
  | .hbm, ⟨48, _⟩ => ⟨S8x128x32x32, .i32⟩
  | .hbm, ⟨49, _⟩ => ⟨S32, .i32⟩
  | .hbm, ⟨50, _⟩ => ⟨S1x1x32x1, .i32⟩
  | .hbm, ⟨51, _⟩ => ⟨S_, .i32⟩
  | .hbm, ⟨52, _⟩ => ⟨S1x1x32x1, .i32⟩
  | .hbm, ⟨53, _⟩ => ⟨S1x1x32x1, .i32⟩
  | .hbm, ⟨54, _⟩ => ⟨S8x128x32x32, .i32⟩
  | .hbm, ⟨55, _⟩ => ⟨S8x128x32x32, .i32⟩
  | .hbm, ⟨56, _⟩ => ⟨S32, .i32⟩
  | .hbm, ⟨57, _⟩ => ⟨S1x1x1x32, .i32⟩
  | .hbm, ⟨58, _⟩ => ⟨S_, .i32⟩
  | .hbm, ⟨59, _⟩ => ⟨S1x1x1x32, .i32⟩
  | .hbm, ⟨60, _⟩ => ⟨S1x1x1x32, .i32⟩
  | .hbm, ⟨61, _⟩ => ⟨S8x128x32x32, .i32⟩
  | .hbm, ⟨62, _⟩ => ⟨S8x128x32x32, .i32⟩
  | .hbm, ⟨63, _⟩ => ⟨S_, .i32⟩
  | .hbm, ⟨64, _⟩ => ⟨S8x128x32x32, .i32⟩
  | .hbm, ⟨65, _⟩ => ⟨S8x128x32x32, .i32⟩
  | .hbm, ⟨66, _⟩ => ⟨S8x128x32x32, .i32⟩
  | .hbm, ⟨67, _⟩ => ⟨S8x128x1024, .i32⟩
  | .hbm, ⟨68, _⟩ => ⟨S8x128x4096, .f32⟩
  | .hbm, ⟨69, _⟩ => ⟨S_, .i32⟩
  | .hbm, ⟨70, _⟩ => ⟨S8x128x1024, .i32⟩
  | .hbm, ⟨71, _⟩ => ⟨S8x128x1024, .i1⟩
  | .hbm, ⟨72, _⟩ => ⟨S_, .i32⟩
  | .hbm, ⟨73, _⟩ => ⟨S8x128x1024, .i32⟩
  | .hbm, ⟨74, _⟩ => ⟨S8x128x1024, .i32⟩
  | .hbm, ⟨75, _⟩ => ⟨S8x128x1024, .i32⟩
  | .hbm, ⟨76, _⟩ => ⟨S8x128x1024x1, .i32⟩
  | .hbm, ⟨77, _⟩ => ⟨S8x128x128x1024, .f32⟩
  | .hbm, ⟨78, _⟩ => ⟨S8x128x128x1024, .f32⟩
  | _, _ => ⟨S8x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v3 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v4 : Ref sig .tc := ⟨.hbm, 26, rfl⟩
abbrev main_c_0 : Ref sig .tc := ⟨.hbm, 27, rfl⟩
abbrev main_call2_v0 : Ref sig .tc := ⟨.hbm, 28, rfl⟩
abbrev main_call2_c : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_c_1 : Ref sig .tc := ⟨.hbm, 35, rfl⟩
abbrev main_call2_v5 : Ref sig .tc := ⟨.hbm, 36, rfl⟩
abbrev main_call2_v6 : Ref sig .tc := ⟨.hbm, 37, rfl⟩
abbrev main_call2_c_2 : Ref sig .tc := ⟨.hbm, 38, rfl⟩
abbrev main_call2_v7 : Ref sig .tc := ⟨.hbm, 39, rfl⟩
abbrev main_call2_v8 : Ref sig .tc := ⟨.hbm, 40, rfl⟩
abbrev main_call2_c_3 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_c_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_c_2 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_c_3 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_4 : Ref sig .tc := ⟨.hbm, 69, rfl⟩
abbrev main_v23 : Ref sig .tc := ⟨.hbm, 70, rfl⟩
abbrev main_v24 : Ref sig .tc := ⟨.hbm, 71, rfl⟩
abbrev main_c_5 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩

abbrev nD : Nat := 1
abbrev τ : Topo := Topo.v7x

variable {F : FTy → Type} [FloatOps F]
-- ==== Proof.Lanes.lean ====
/-
  The kernel's lane arithmetic and its gathers, read at an index.

  One block of 1024 columns is read as two halves of 512, each half as four runs of 128 lanes. Lane `l` of a half
  belongs to window row `l / 32` and window column `l % 32`; the four elements of its 2 × 2 window are gathered, one by
  one, from all four runs at the same lane, and the run that holds the window row is selected.
-/
module

public import proofs.«01_k».proof.Proof.Gen.KernelIdeal.Value
public import Idealize.ShloMosaic.Lib.Pointwise

@[expose] public section

set_option maxRecDepth 16384

noncomputable section

namespace Cert.KernelIdeal.Window

open Cert.KernelIdeal Cert.KernelIdeal.Gen Idealize.ShloMosaic Idealize.SL.Sem

variable {F : FTy → Type} [FloatOps F]

/-- A row of 128 lanes copied to all 128 channels. -/
def rows {α : Type} (v : S1x128.Idx → α) : S128x128.Idx → α :=
  broadcastTo S128x128 (shapeCast S1x128 v shapeCasts_S1x128_S1x128) broadcasts_S1x128_S128x128

/-- A copied row reads the row at its lane. -/
theorem rows_apply {α : Type} (v : S1x128.Idx → α) (c l : Fin 128) : rows v (ix2 c l) = v (ix2 0 l) := by
  unfold rows
  pointwise

/-- One gather along the lanes of a 128 × 128 run, at a row of lane numbers shared by all channels (a negative number
    counts from the end). -/
def take (i : IVec S1x128 32) (s : FVec F S128x128 .f32) : FVec F S128x128 .f32 :=
  dynamicGather 1 s (shapeCast S128x128 (shapeCast S128x128x1
    (select (cmpi .slt (rows i) (broadcast S128x128 0#32)) (addi (rows i) (broadcast S128x128 128#32)) (rows i))
    shapeCasts_S128x128_S128x128x1) shapeCasts_S128x128x1_S128x128)

/-- A gather at the lane number `n` reads the run at lane `n`. -/
theorem take_apply (i : IVec S1x128 32) (s : FVec F S128x128 .f32) (c l n : Fin 128)
    (h : i (ix2 0 l) = BitVec.ofNat 32 n) : take i s (ix2 c l) = s (ix2 c n) := by
  have key : ∀ n : Fin 128, (Scalar.select (IntOp.cmpi .slt (BitVec.ofNat 32 n) 0#32)
      (IntOp.addi (BitVec.ofNat 32 n) 128#32) (BitVec.ofNat 32 n)).toNat % 128 = n := by decide +kernel
  unfold take
  rw [shapeCast_shapeCast]
  unfold dynamicGather
  congr 1
  funext a
  match a with
  | ⟨0, _⟩ => rfl
  | ⟨1, _⟩ =>
    apply Fin.ext
    show (Scalar.select (IntOp.cmpi .slt (rows i (ix2 c l)) 0#32) (IntOp.addi (rows i (ix2 c l)) 128#32)
      (rows i (ix2 c l))).toNat % 128 = n
    rw [rows_apply, h]
    exact key n

/-- The choice among four gathered runs by window row. -/
def pick (q : IVec S1x128 32) (g : Fin 4 → FVec F S128x128 .f32) : FVec F S128x128 .f32 :=
  select (rows (cmpi .slt q (broadcast S1x128 2#32)))
    (select (rows (cmpi .eq q (broadcast S1x128 0#32))) (g 0) (g 1))
    (select (rows (cmpi .eq q (broadcast S1x128 2#32))) (g 2) (g 3))

/-- The choice at window row `r` is the run of that row. -/
theorem pick_apply (q : IVec S1x128 32) (g : Fin 4 → FVec F S128x128 .f32) (c l : Fin 128) (r : Fin 4)
    (h : q (ix2 0 l) = BitVec.ofNat 32 r) : pick q g (ix2 c l) = g r (ix2 c l) := by
  show Scalar.select (rows (cmpi .slt q (broadcast S1x128 2#32)) (ix2 c l))
    (Scalar.select (rows (cmpi .eq q (broadcast S1x128 0#32)) (ix2 c l)) (g 0 (ix2 c l)) (g 1 (ix2 c l)))
    (Scalar.select (rows (cmpi .eq q (broadcast S1x128 2#32)) (ix2 c l)) (g 2 (ix2 c l)) (g 3 (ix2 c l))) = _
  rw [rows_apply, rows_apply, rows_apply]
  show Scalar.select (IntOp.cmpi .slt (q (ix2 0 l)) 2#32)
    (Scalar.select (IntOp.cmpi .eq (q (ix2 0 l)) 0#32) (g 0 (ix2 c l)) (g 1 (ix2 c l)))
    (Scalar.select (IntOp.cmpi .eq (q (ix2 0 l)) 2#32) (g 2 (ix2 c l)) (g 3 (ix2 c l))) = _
  rw [h]
  fin_cases r <;> rfl

/-- The row of lane numbers a window element is gathered at: `a + 2 * w + b` for window column `w`. -/
def lanes (a b : BitVec 32) (w : IVec S1x128 32) : IVec S1x128 32 :=
  addi (addi (broadcast S1x128 a) (muli (broadcast S1x128 2#32) w)) (broadcast S1x128 b)

/-- The lane inside its run of window element `j` at lane `l`. -/
def lane (j : Fin 4) (l : Fin 128) : Fin 128 := ⟨64 * (j / 2) + 2 * (l % 32) + j % 2, by omega⟩

/-- The body's window column of lane `l` is `l % 32`, a number the body computes in signed words. -/
theorem column_apply (x : Vec F S1x128x1024 .f32) (l : Fin 128) :
    k0_pay231 x (ix2 0 l) = BitVec.ofNat 32 (l % 32) := by
  have key : ∀ l : Fin 128, k0_pay3 (ix2 0 l) = BitVec.ofNat 32 (l % 32) := by decide +kernel
  exact key l

/-- The body's window row of lane `l` is `l / 32`. -/
theorem row_apply (x : Vec F S1x128x1024 .f32) (l : Fin 128) :
    k0_pay232 x (ix2 0 l) = BitVec.ofNat 32 (l / 32) := by
  have key : ∀ l : Fin 128, k0_pay7 k0_pay4 k0_pay5 k0_pay6 (ix2 0 l) = BitVec.ofNat 32 (l / 32) := by decide +kernel
  exact key l

/-- The two words a window element adds to its lane number: its row's 64 and its column's 1. -/
def rowWord (j : Fin 4) : BitVec 32 := BitVec.ofNat 32 (64 * (j / 2))
/-- (the column's) -/
def colWord (j : Fin 4) : BitVec 32 := BitVec.ofNat 32 (j % 2)

/-- The lane numbers of window element `j` are `lane j`. -/
theorem lanes_apply (j : Fin 4) (x : Vec F S1x128x1024 .f32) (l : Fin 128) :
    lanes (rowWord j) (colWord j) (k0_pay231 x) (ix2 0 l) = BitVec.ofNat 32 (lane j l) := by
  show IntOp.addi (IntOp.addi (rowWord j) (IntOp.muli 2#32 (k0_pay231 x (ix2 0 l)))) (colWord j) = _
  rw [column_apply]
  revert j l
  decide +kernel

/-- The column of a 1024-column block that window element `j` of output lane `l` (of 256) reads. -/
def col (j : Fin 4) (l : Fin 256) : Fin 1024 := ⟨128 * (l / 32) + (64 * (j / 2) + 2 * (l % 32) + j % 2), by omega⟩

/-- Lane `l` of half `t`, as a lane of the block's 256. -/
def full (t : Fin 2) (l : Fin 128) : Fin 256 := ⟨128 * t + l, by omega⟩

/-- Run `r` of half `t` of the block: 128 lanes of every channel. -/
def run (t : Fin 2) (x : Vec F S1x128x1024 .f32) : Fin 4 → FVec F S128x128 .f32 :=
  match t with
  | 0 => ![k0_pay233 x, k0_pay234 x, k0_pay235 x, k0_pay236 x]
  | 1 => ![k0_pay250 x, k0_pay251 x, k0_pay252 x, k0_pay253 x]

/-- The block with its unit axis dropped. -/
theorem block_apply (x : Vec F S1x128x1024 .f32) (c : Fin 128) (k : Fin 1024) :
    k0_pay230 x (ix2 c k) = x (ix3 0 c k) := by
  unfold k0_pay230 k0_pay2
  rw [View.ld_unit_zero (by funext a; fin_cases a <;> rfl)]
  pointwise

/-- A run reads the block at its 128 columns. -/
theorem run_apply (t : Fin 2) (x : Vec F S1x128x1024 .f32) (r : Fin 4) (c n : Fin 128) :
    run t x r (ix2 c n) = x (ix3 0 c ⟨512 * t + 128 * r + n, by omega⟩) := by
  have cut (o : Nat) (ho : o + 128 ≤ 1024) (h : S128x1024.Slices ![0, o] S128x128) :
      extractStridedSlice S128x128 ![0, o] (k0_pay230 x) h (ix2 c n) = x (ix3 0 c ⟨o + n, by omega⟩) := by
    refine Eq.trans ?_ (block_apply x c _)
    unfold extractStridedSlice
    congr 1
    funext a
    fin_cases a
    · exact Fin.ext (Nat.zero_add _)
    · rfl
  fin_cases t <;> fin_cases r
  all_goals exact (cut _ (by decide) (by decide)).trans (by simp)

/-- The four gathered vectors of half `t`: window element `j` of every lane and channel. -/
def elem (t : Fin 2) (x : Vec F S1x128x1024 .f32) (j : Fin 4) : FVec F S128x128 .f32 :=
  pick (k0_pay232 x) fun r => take (lanes (rowWord j) (colWord j) (k0_pay231 x)) (run t x r)

/-- A gathered vector reads the block at the window element's column. -/
theorem elem_apply (t : Fin 2) (x : Vec F S1x128x1024 .f32) (j : Fin 4) (c l : Fin 128) :
    elem t x j (ix2 c l) = x (ix3 0 c (col j (full t l))) := by
  unfold elem
  rw [pick_apply _ _ c l ⟨l / 32, by omega⟩ (row_apply x l), take_apply _ _ c l (lane j l) (lanes_apply j x l), run_apply]
  congr 2
  apply Fin.ext
  simp only [col, lane, full]
  omega

/-- The body's gathered vectors, first half. -/
theorem elem_first (x : Vec F S1x128x1024 .f32) :
    k0_pay237 x = elem 0 x 0 ∧ k0_pay238 x = elem 0 x 1 ∧ k0_pay239 x = elem 0 x 2 ∧ k0_pay246 x = elem 0 x 3 :=
  ⟨rfl, rfl, rfl, rfl⟩

/-- The body's gathered vectors, second half. -/
theorem elem_second (x : Vec F S1x128x1024 .f32) :
    k0_pay255 x = elem 1 x 0 ∧ k0_pay256 x = elem 1 x 1 ∧ k0_pay257 x = elem 1 x 2 ∧ k0_pay260 x = elem 1 x 3 :=
  ⟨rfl, rfl, rfl, rfl⟩

end Cert.KernelIdeal.Window

end
-- ==== Proof.Block.lean ====
/-
  What one grid point leaves in its output block.

  The body writes its block in 64 stores of four pooling channels by 128 lanes. Every store selects, per pooling channel
  and lane, one of the four gathered vectors of the value channels; all stores are instances of one expression at a
  channel offset, and all read one function of the input block.
-/
module

public import proofs.«01_k».proof.Proof.Lanes

@[expose] public section

set_option maxRecDepth 16384

noncomputable section

namespace Cert.KernelIdeal.Window

open Cert.KernelIdeal Cert.KernelIdeal.Gen Idealize.ShloMosaic Idealize.SL.Sem

variable {F : FTy → Type} [FloatOps F]

/-- The larger of two window elements, the first on ties. -/
def larger (a b : F .f32) : F .f32 := Scalar.select (FloatOps.cmpf .ogt b a) b a

/-- The kernel's choice among the four values `v` by the four window elements `p`: the larger of each window row, then
    the row of the larger of the two, an earlier one on ties. -/
def choose (p v : Fin 4 → F .f32) : F .f32 :=
  Scalar.select (FloatOps.cmpf .ogt (larger (p 2) (p 3)) (larger (p 0) (p 1)))
    (Scalar.select (FloatOps.cmpf .ogt (p 3) (p 2)) (v 3) (v 2))
    (Scalar.select (FloatOps.cmpf .ogt (p 1) (p 0)) (v 1) (v 0))

/-- Four channels of a mask from channel `o` on, copied along the value channels. -/
def maskRows (o : Nat) (h : S128x128.Slices ![o, 0] S4x128) (b : IVec S128x128 1) : IVec S4x128x128 1 :=
  broadcastTo S4x128x128 (shapeCast S4x1x128 (shapeCast S4x1x128
    (extractStridedSlice S4x128 ![o, 0] b h) shapeCasts_S4x128_S4x1x128) shapeCasts_S4x1x128_S4x1x128)
    broadcasts_S4x1x128_S4x128x128

/-- A vector of the value channels copied to four pooling channels. -/
def valueRows (v : FVec F S128x128 .f32) : FVec F S4x128x128 .f32 :=
  broadcastTo S4x128x128 (shapeCast S1x128x128 (shapeCast S1x128x128 v shapeCasts_S128x128_S1x128x128)
    shapeCasts_S1x128x128_S1x128x128) broadcasts_S1x128x128_S4x128x128

/-- The second of a pair of vectors where it is greater, as a mask. -/
def greater (v w : FVec F S128x128 .f32) : IVec S128x128 1 := cmpf .ogt w v

/-- The four pooling channels from `o` on that one store writes, from the four gathered vectors. -/
def store (o : Nat) (h : S128x128.Slices ![o, 0] S4x128) (e : Fin 4 → FVec F S128x128 .f32) :
    FVec F S1x4x128x128 .f32 :=
  shapeCast S1x4x128x128
    (select (maskRows o h (greater (select (greater (e 0) (e 1)) (e 1) (e 0)) (select (greater (e 2) (e 3)) (e 3) (e 2))))
      (select (maskRows o h (greater (e 2) (e 3))) (valueRows (e 3)) (valueRows (e 2)))
      (select (maskRows o h (greater (e 0) (e 1))) (valueRows (e 1)) (valueRows (e 0))))
    shapeCasts_S4x128x128_S1x4x128x128

/-- The mask rows read the mask at the pooling channel, the same for every value channel. -/
theorem maskRows_apply (o : Nat) (h : S128x128.Slices ![o, 0] S4x128) (b : IVec S128x128 1) (r : Fin 4) (v l : Fin 128)
    (ho : o + 4 ≤ 128) : maskRows o h b (ix3 r v l) = b (ix2 ⟨o + r, by omega⟩ l) := by
  unfold maskRows
  pointwise

/-- The value rows read the element at the value channel, the same for every pooling channel. -/
theorem valueRows_apply (e : FVec F S128x128 .f32) (r : Fin 4) (v l : Fin 128) :
    valueRows e (ix3 r v l) = e (ix2 v l) := by
  unfold valueRows
  pointwise

/-- The block a grid point leaves, index by index: the kernel's choice among the window's value-channel elements by its
    pooling-channel elements. -/
def block (x : Vec F S1x128x1024 .f32) : Vec F S1x128x128x256 .f32 := fun y =>
  choose (fun j => x (ix3 0 (y 1) (col j (y 3)))) (fun j => x (ix3 0 (y 2) (col j (y 3))))

/-- One store at an index is the block's entry there: four pooling channels from `o`, the 128 lanes of half `t`. -/
theorem store_apply (t : Fin 2) (x : Vec F S1x128x1024 .f32) (o : Nat) (h : S128x128.Slices ![o, 0] S4x128)
    (z : Nat) (hz : z = 128 * t) (inb : ∀ a, ![0, o, 0, z] a + S1x4x128x128.size a ≤ S1x128x128x256.size a)
    (P : Vec F S1x4x128x128 .f32) (hP : P = store o h (elem t x)) (y : S1x4x128x128.Idx) :
    P y = block x ((Rect.unit (s := S1x128x128x256) ![0, o, 0, z] S1x4x128x128.size inb).emb y) := by
  subst hP hz
  have ho : o + 4 ≤ 128 := inb 1
  idx_vars y
  have e : store o h (elem t x) (ix4 y0 y1 y2 y3)
      = choose (fun j => elem t x j (ix2 ⟨o + y1, by omega⟩ y3)) (fun j => elem t x j (ix2 y2 y3)) := by
    unfold store
    pointwise [maskRows_apply _ _ _ _ _ _ ho, valueRows_apply]
    rfl
  rw [e]
  simp only [elem_apply]
  have e1 : (Rect.unit (s := S1x128x128x256) ![0, o, 0, 128 * (t : Nat)] S1x4x128x128.size inb).emb (ix4 y0 y1 y2 y3)
      = ix4 (0 : Fin 1) (⟨o + y1, by omega⟩ : Fin 128) y2 (full t y3) := by
    funext a
    apply Fin.ext
    match a with
    | ⟨0, _⟩ => show 0 + 1 * (y0 : Nat) = 0; omega
    | ⟨1, _⟩ => show o + 1 * (y1 : Nat) = o + y1; omega
    | ⟨2, _⟩ => show 0 + 1 * (y2 : Nat) = y2; omega
    | ⟨3, _⟩ => show 128 * (t : Nat) + 1 * (y3 : Nat) = 128 * t + y3; omega
  rw [e1]
  rfl

set_option maxHeartbeats 1000000 in
/-- The block a grid point leaves: its 64 stores agree with one function of the input block, and tile it. -/
theorem out_eq (x : Vec F S1x128x1024 .f32) : out0_1 x = block x := by
  funext y
  unfold out0_1
  dsimp only
  refine View.canon_apply_of_pieces (block x) _ ?pieces y ?cover
  case cover =>
    refine View.cover_of_tiled (s := S1x128x128x256) _ S1x4x128x128.size ?_ y
    rfl
  case pieces =>
    iterate 32 refine List.forall_mem_cons.mpr ⟨store_apply 1 x _ (by decide) _ rfl (by decide) _ rfl, ?_⟩
    iterate 32 refine List.forall_mem_cons.mpr ⟨store_apply 0 x _ (by decide) _ rfl (by decide) _ rfl, ?_⟩
    exact fun _ hp => absurd hp List.not_mem_nil

end Cert.KernelIdeal.Window

end
-- ==== Proof.Array.lean ====
/-
  The kernel's final result array, as one function of its argument.

  Grid point `t` is batch `t / 4` and quarter `t % 4`: it reads 1024 columns of the flattened images and writes 256
  windows, so the block it writes is the block of one function of the whole array, and the 32 blocks cover the result.
-/
module

public import proofs.«01_k».proof.Proof.Block
public import Idealize.ShloMosaic.Lib.Claim

@[expose] public section

set_option maxRecDepth 16384

noncomputable section

namespace Cert.KernelIdeal.Window

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The position in a flattened 64 × 64 image of element `j` of window `i`. -/
def cell (j : Fin 4) (i : Fin 1024) : Fin 4096 := ⟨128 * (i / 32) + (64 * (j / 2) + 2 * (i % 32) + j % 2), by omega⟩

/-- The pooled array from the flattened images: at batch, pooling channel, value channel and window, the kernel's choice
    among the value channel's window elements by the pooling channel's. -/
def pooled (X : Vec F S8x128x4096 .f32) : Vec F S8x128x128x1024 .f32 := fun i =>
  choose (fun j => X (ix3 (i 0) (i 1) (cell j (i 3)))) (fun j => X (ix3 (i 0) (i 2) (cell j (i 3))))

/-- The images as the region finds them: the argument flattened. -/
def images (c : Dev nD) : Vec F S8x128x4096 .f32 :=
  shapeCast S8x128x4096 (m ((c : Thread nD τ).loc main_arg0)) shapeCasts_S8x128x64x64_S8x128x4096

/-- The array the region reads is the argument flattened. -/
theorem entry_images (c : Dev nD) : V m c main_v0 = images m c := by
  entry_read
  rfl

/-- Where point `t`'s input block lies. -/
theorem index_in : ∀ t : Fin cfg0.N, win0_0.index t = ![t.val / 4, 0, t.val % 4] :=
  (by decide +kernel : ∀ t : Fin grid0.N, win0_0.index t = ![t.val / 4, 0, t.val % 4])

/-- Where point `t`'s output block lies. -/
theorem index_out : ∀ t : Fin cfg0.N, win0_1.index t = ![t.val / 4, 0, 0, t.val % 4] :=
  (by decide +kernel : ∀ t : Fin grid0.N, win0_1.index t = ![t.val / 4, 0, 0, t.val % 4])

/-- The input block at point `t` reads the images at its batch and its 1024 columns. -/
theorem iblk_apply (c : Dev nD) (t : Fin cfg0.N) (ch : Fin 128) (k : Fin 1024) (b : Fin 8) (n : Fin 4096)
    (hb : (b : Nat) = t.val / 4) (hn : (n : Nat) = 1024 * (t.val % 4) + k) :
    iblk m c 0 t (ix3 (0 : Fin 1) ch k) = images m c (ix3 b ch n) := by
  show V m c main_v0 ((win0_0.rect t).emb (ix3 (0 : Fin 1) ch k)) = _
  rw [entry_images]
  congr 1
  funext a
  apply Fin.ext
  rw [win0_0.rect_emb_val t _ a, index_in]
  match a with
  | ⟨0, _⟩ => show t.val / 4 * 1 + 0 = (b : Nat); omega
  | ⟨1, _⟩ => show 0 * 128 + (ch : Nat) = ch; omega
  | ⟨2, _⟩ => show t.val % 4 * 1024 + (k : Nat) = n; omega

/-- What point `t` writes back is its block of the pooled array. -/
theorem flushed_eq (c : Dev nD) (t : Fin cfg0.N) :
    (dats m 0 c).flushed 1 t = (win0_1.blk t).view.read (Elt F) (pooled (images m c)) := by
  rw [Value.flushed1, out_eq]
  have hN : t.val < 32 := lt_of_lt_of_eq t.isLt N_0
  have h (ch : Fin 128) (j : Fin 4) (l : Fin 256) (h3 : 256 * (t.val % 4) + l < 1024) :
      iblk m c 0 t (ix3 (0 : Fin 1) ch (col j l))
        = images m c (ix3 (⟨t.val / 4, by omega⟩ : Fin 8) ch (cell j ⟨256 * (t.val % 4) + l, h3⟩)) :=
    iblk_apply m c t ch _ _ _ rfl (by simp only [cell, col]; omega)
  have key (y : S1x128x128x256.Idx) :
      block (iblk m c 0 t) y = pooled (images m c) ((win0_1.rect t).emb y) := by
    have h0 : (y 0 : Nat) < 1 := (y 0).isLt
    have h3 : (y 3 : Nat) < 256 := (y 3).isLt
    have e : (win0_1.rect t).emb y = ix4 (⟨t.val / 4, by omega⟩ : Fin 8) (y 1) (y 2)
        (⟨256 * (t.val % 4) + (y 3 : Nat), by omega⟩ : Fin 1024) := by
      funext a
      apply Fin.ext
      rw [win0_1.rect_emb_val t _ a, index_out]
      match a with
      | ⟨0, _⟩ => show t.val / 4 * 1 + (y 0 : Nat) = t.val / 4; omega
      | ⟨1, _⟩ => show 0 * 128 + (y 1 : Nat) = (y 1 : Nat); omega
      | ⟨2, _⟩ => show 0 * 128 + (y 2 : Nat) = (y 2 : Nat); omega
      | ⟨3, _⟩ => show t.val % 4 * 256 + (y 3 : Nat) = 256 * (t.val % 4) + (y 3 : Nat); omega
    rw [e]
    exact congrArg₂ choose (funext fun j => h (y 1) j (y 3) (by omega)) (funext fun j => h (y 2) j (y 3) (by omega))
  exact funext key

/-- The 32 blocks cover the result array. -/
theorem cover (i : S8x128x128x1024.Idx) :
    ∃ t : Fin cfg0.N, (cfg0.win 1).flush t = true ∧ i ∈ ((cfg0.win 1).blk t).view.set := by
  have h0 : (i 0 : Nat) < 8 := (i 0).isLt
  have h1 : (i 1 : Nat) < 128 := (i 1).isLt
  have h2 : (i 2 : Nat) < 128 := (i 2).isLt
  have h3 : (i 3 : Nat) < 1024 := (i 3).isLt
  have hN : cfg0.N = 32 := N_0
  obtain ⟨t, ht⟩ : ∃ t : Fin cfg0.N, t.val = 4 * (i 0 : Nat) + (i 3 : Nat) / 256 := ⟨⟨_, by omega⟩, rfl⟩
  refine ⟨t, flush0_1 t, ?_⟩
  show i ∈ ((View.whole main_v1).slice (win0_1.rect t)).set
  rw [View.set_slice_whole, Rect.mem_set_unit]
  intro a
  show win0_1.index _ a * win0_1.size a ≤ (i a : Nat) ∧ (i a : Nat) < win0_1.index _ a * win0_1.size a + win0_1.xsize _ a
  rw [index_out]
  match a with
  | ⟨0, _⟩ => show t.val / 4 * 1 ≤ (i 0 : Nat) ∧ (i 0 : Nat) < t.val / 4 * 1 + 1; omega
  | ⟨1, _⟩ => show 0 * 128 ≤ (i 1 : Nat) ∧ (i 1 : Nat) < 0 * 128 + 128; omega
  | ⟨2, _⟩ => show 0 * 128 ≤ (i 2 : Nat) ∧ (i 2 : Nat) < 0 * 128 + 128; omega
  | ⟨3, _⟩ => show t.val % 4 * 256 ≤ (i 3 : Nat) ∧ (i 3 : Nat) < t.val % 4 * 256 + 256; omega

/-- The kernel ends with its result array the pooled array of the flattened argument and its argument unchanged. -/
theorem run_pooled : θ_run defs (onTc (τ := τ) (main (F := F))) ⟨m, fun _ => 0, ρ⟩ fun r => ∀ c : Dev nD,
      r.2.mem ((c : Thread nD τ).loc main_v1) = pooled (images m c)
      ∧ r.2.mem ((c : Thread nD τ).loc main_arg0) = m ((c : Thread nD τ).loc main_arg0) :=
  (θ_run defs _ _).mono (fun _ h c => ⟨(h c).1.trans
      ((dats m 0 c).arrAt_eq_of_cover 1 (pooled (images m c)) (fun t _ => flushed_eq m c t) cover), (h c).2⟩)
    (Value.run_blocks m ρ)

end Cert.KernelIdeal.Window

end
-- ==== Proof.Choice.lean ====
/-
  The two programs' choices among the four elements of a window agree on the extended reals.

  The kernel compares in pairs and carries the value; the reference folds a running maximum from minus infinity and
  carries the element's number. A later element replaces an earlier one exactly when it is larger, in both.
-/
module

public import proofs.«01_k».proof.Proof.Block
public import proofs.«01_k».proof.Proof.Gen.ReferenceIdeal

@[expose] public section

set_option maxRecDepth 16384

noncomputable section

namespace Cert.ReferenceIdeal.Pool

open Cert.ReferenceIdeal Cert.ReferenceIdeal.Gen Idealize.ShloMosaic

/-- One step of the reference's fold over numbered values in increasing order: the later value is taken exactly when
    it is larger. -/
theorem step_eq (a b : Ideal .f32) (i k : BitVec 32) (h : IntOp.cmpi .slt i k = 1#1) :
    reducer_argmax_f32_i32 (F := Ideal) (a, i) (b, k) = if a < b then (b, k) else (a, i) := by
  unfold reducer_argmax_f32_i32
  dsimp only
  rw [h]
  simp only [Ideal.cmpf_def]
  rcases lt_trichotomy (a : EReal) b with hl | hl | hl
  · have h1 : ¬ (b : EReal) < a := not_lt.2 hl.le
    have h2 : ¬ (a : EReal) = b := hl.ne
    simp [Ideal.cmp, hl, h1, h2, Scalar.select, IntOp.ori, IntOp.andi]
  · subst hl
    simp [Ideal.cmp, Scalar.select, IntOp.ori, IntOp.andi]
  · have h1 : ¬ (a : EReal) < b := not_lt.2 hl.le
    have h2 : ¬ (a : EReal) = b := hl.ne'
    simp [Ideal.cmp, hl, h1, h2, Scalar.select, IntOp.ori, IntOp.andi]

/-- The reference's number of the largest of four values: its fold from minus infinity. -/
def number (p : Fin 4 → Ideal .f32) : BitVec 32 :=
  (((List.finRange 4).map fun k => (p k, BitVec.ofNat 32 k)).foldl (reducer_argmax_f32_i32 (F := Ideal))
    (FloatOps.ofBits .f32 4286578688#32, 0#32)).2

/-- The fold starts from the bottom of the extended reals. -/
theorem start_bot : (FloatOps.ofBits .f32 4286578688#32 : Ideal .f32) = (⊥ : EReal) := by
  show Ideal.ofBits .f32 4286578688#32 = ⊥
  simp [Ideal.ofBits, Ideal.ieee]

/-- The number is that of one of the four values, and the kernel's choice among any four others by these four is the
    one with that number. -/
theorem choose_number (p : Fin 4 → Ideal .f32) : ∃ k : Fin 4, number p = BitVec.ofNat 32 k
    ∧ ∀ v : Fin 4 → Ideal .f32, Cert.KernelIdeal.Window.choose p v = v k := by
  have e (s : Ideal .f32 × BitVec 32) : ((List.finRange 4).map fun k => (p k, BitVec.ofNat 32 k)).foldl
      (reducer_argmax_f32_i32 (F := Ideal)) s = reducer_argmax_f32_i32 (reducer_argmax_f32_i32 (reducer_argmax_f32_i32
        (reducer_argmax_f32_i32 s (p 0, 0#32)) (p 1, 1#32)) (p 2, 2#32)) (p 3, 3#32) := rfl
  have first (q : Ideal .f32) : reducer_argmax_f32_i32 (F := Ideal) (FloatOps.ofBits .f32 4286578688#32, 0#32) (q, 0#32)
      = (q, 0#32) := by
    rw [start_bot]
    unfold reducer_argmax_f32_i32
    simp [Ideal.cmpf_def, Ideal.cmp, Scalar.select, IntOp.ori, IntOp.andi]
  have larger_eq (a b : Ideal .f32) : Cert.KernelIdeal.Window.larger a b = if a < b then b else a := by
    unfold Cert.KernelIdeal.Window.larger
    by_cases hl : a < b <;> simp [Ideal.cmpf_def, Ideal.cmp, Scalar.select, hl]
  have pick_eq (a b c d : Ideal .f32) : Scalar.select (FloatOps.cmpf .ogt b a) d c = if a < b then d else c := by
    by_cases hl : a < b <;> simp [Ideal.cmpf_def, Ideal.cmp, Scalar.select, hl]
  have last (m : Ideal .f32) (i : BitVec 32) (h2 : IntOp.cmpi .slt i 2#32 = 1#1) (h3 : IntOp.cmpi .slt i 3#32 = 1#1) :
      (reducer_argmax_f32_i32 (F := Ideal) (reducer_argmax_f32_i32 (m, i) (p 2, 2#32)) (p 3, 3#32)).2
        = if m < (if p 2 < p 3 then p 3 else p 2) then (if p 2 < p 3 then 3#32 else 2#32) else i := by
    rw [step_eq m (p 2) i 2#32 h2]
    by_cases a : m < p 2
    · rw [if_pos a, step_eq (p 2) (p 3) 2#32 3#32 (by decide)]
      by_cases b : p 2 < p 3
      · simp only [b, a.trans b, if_true]
      · simp only [b, a, if_true, if_false]
    · rw [if_neg a, step_eq m (p 3) i 3#32 h3]
      by_cases b : p 2 < p 3
      · simp only [b, if_true]
        by_cases c : m < p 3 <;> simp only [c, if_true, if_false]
      · have c : ¬ m < p 3 := fun c => a (c.trans_le (not_lt.1 b))
        simp only [a, b, c, if_false]
  unfold number Cert.KernelIdeal.Window.choose
  rw [e, first]
  simp only [larger_eq, pick_eq]
  rw [step_eq (p 0) (p 1) 0#32 1#32 (by decide)]
  by_cases h01 : p 0 < p 1
  · simp only [h01, if_true]
    rw [last (p 1) 1#32 (by decide) (by decide)]
    by_cases hm : p 1 < (if p 2 < p 3 then p 3 else p 2)
    · simp only [hm, if_true]
      by_cases h23 : p 2 < p 3
      · exact ⟨3, by simp only [h23, if_true]; rfl, fun v => by simp only [h23, if_true]⟩
      · exact ⟨2, by simp only [h23, if_false]; rfl, fun v => by simp only [h23, if_false]⟩
    · exact ⟨1, by simp only [hm, if_false]; rfl, fun v => by simp only [hm, if_false]⟩
  · simp only [h01, if_false]
    rw [last (p 0) 0#32 (by decide) (by decide)]
    by_cases hm : p 0 < (if p 2 < p 3 then p 3 else p 2)
    · simp only [hm, if_true]
      by_cases h23 : p 2 < p 3
      · exact ⟨3, by simp only [h23, if_true]; rfl, fun v => by simp only [h23, if_true]⟩
      · exact ⟨2, by simp only [h23, if_false]; rfl, fun v => by simp only [h23, if_false]⟩
    · exact ⟨0, by simp only [hm, if_false]; rfl, fun v => by simp only [hm, if_false]⟩

end Cert.ReferenceIdeal.Pool
end
-- ==== Proof.Argmax.lean ====
module

public import proofs.«01_k».proof.Proof.Choice
public import Idealize.ShloMosaic.Lib.Pointwise

@[expose] public section

set_option maxRecDepth 16384

noncomputable section

namespace Cert.ReferenceIdeal.Pool

open Cert.ReferenceIdeal Cert.ReferenceIdeal.Gen Idealize.ShloMosaic Idealize.ShloMosaic.TcCoe Idealize.SL.Sem

/-- The number of each window's largest element. -/
def best (v : Vec Ideal S8x128x32x32x4 .f32) : IVec S8x128x32x32 32 := fun j =>
  (Host.argReduce (reducer_argmax_f32_i32 (F := Ideal)) v (iotaInDim S8x128x32x32x4 32 4)
    (constant (F := Ideal) S_ .f32 4286578688#32) (constantI S_ 32 0#32)
    reducesTo_S8x128x32x32x4_S8x128x32x32_d4 h_S_ j).2

/-- The numbers below `N` that satisfy a condition, in order, are any increasing list of exactly those. -/
theorem filter_eq {N : Nat} (p : Fin N → Bool) (l : List (Fin N)) (sorted : l.Pairwise (· < ·))
    (mem : ∀ n, p n = true ↔ n ∈ l) : (List.finRange N).filter p = l := by
  have sorted' := (List.pairwise_lt_finRange N).filter p
  refine List.Perm.eq_of_pairwise (fun a b _ _ h h' => absurd h' h.asymm) sorted' sorted
    ((List.perm_ext_iff_of_nodup (sorted'.imp fun h => h.ne) (sorted.imp fun h => h.ne)).2 fun n => ?_)
  rw [List.mem_filter, ← mem]
  exact and_iff_right (List.mem_finRange n)

/-- The elements of one window lie in order. -/
theorem sorted (b : Fin 8) (c : Fin 128) (r w : Fin 32) :
    ((List.finRange 4).map fun k => S8x128x32x32x4.rowMajor (ix5 b c r w k)).Pairwise (· < ·) := by
  refine List.pairwise_map.2 ((List.pairwise_lt_finRange 4).imp fun {k k'} h => ?_)
  rw [Fin.lt_def, Shape.rowMajor_val_five, Shape.rowMajor_val_five]
  exact Nat.add_lt_add_left h _

/-- The elements reduced into one window are its four. -/
theorem mem_fiber (b : Fin 8) (c : Fin 128) (r w : Fin 32) (n : Fin S8x128x32x32x4.numel) :
    reducesTo_S8x128x32x32x4_S8x128x32x32_d4.drop (S8x128x32x32x4.rowMajor.symm n) = ix4 b c r w
      ↔ n ∈ (List.finRange 4).map fun k => S8x128x32x32x4.rowMajor (ix5 b c r w k) := by
  have drop (i : S8x128x32x32x4.Idx) : reducesTo_S8x128x32x32x4_S8x128x32x32_d4.drop i = ix4 (i 0) (i 1) (i 2) (i 3) := by
    funext a
    match a with
    | ⟨0, _⟩ => rfl
    | ⟨1, _⟩ => rfl
    | ⟨2, _⟩ => rfl
    | ⟨3, _⟩ => rfl
  rw [List.mem_map, drop]
  constructor
  · intro h
    refine ⟨S8x128x32x32x4.rowMajor.symm n 4, List.mem_finRange _, ?_⟩
    rw [← Equiv.eq_symm_apply]
    funext a
    match a with
    | ⟨0, _⟩ => exact (congrFun h 0).symm
    | ⟨1, _⟩ => exact (congrFun h 1).symm
    | ⟨2, _⟩ => exact (congrFun h 2).symm
    | ⟨3, _⟩ => exact (congrFun h 3).symm
    | ⟨4, _⟩ => rfl
  · rintro ⟨k, _, rfl⟩
    rw [Equiv.symm_apply_apply]
    rfl

/-- The numbered values reduced into one window are its four elements with their numbers, in order. -/
theorem fiber (v : Vec Ideal S8x128x32x32x4 .f32) (b : Fin 8) (c : Fin 128) (r w : Fin 32) :
    Host.argReduceFiber v (iotaInDim S8x128x32x32x4 32 4) reducesTo_S8x128x32x32x4_S8x128x32x32_d4 (ix4 b c r w)
      = (List.finRange 4).map fun k => (v (ix5 b c r w k), BitVec.ofNat 32 k) := by
  unfold Host.argReduceFiber
  rw [filter_eq _ _ (sorted b c r w) fun n => decide_eq_true_iff.trans (mem_fiber b c r w n), List.map_map]
  refine List.map_congr_left fun k _ => ?_
  rw [Function.comp_apply, Equiv.symm_apply_apply]
  rfl

/-- A numbered reduction at an index is the left fold of its numbered values, whatever its shape. -/
theorem argReduce_fold {s t u : Shape} {axes : List (Fin s.rank)} {β : Type} {φ : FTy}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) (a : Ideal φ) (n : β)
    (ha : ix (Shape.Idx.first hu) = a) (hn : iy (Shape.Idx.first hu) = n) (l : List (Ideal φ × β))
    (hl : Host.argReduceFiber x y h j = l) : (Host.argReduce f x y ix iy h hu j).2 = (l.foldl f (a, n)).2 := by
  rw [Ideal.argReduce_eq_reduce2, Host.reduce2_eq_foldl_fiber, ha, hn, hl]

/-- The numbers of the largest elements, as the numbered reduction they are taken from. -/
theorem best_def (v : Vec Ideal S8x128x32x32x4 .f32) : best v = fun j =>
    (Host.argReduce (reducer_argmax_f32_i32 (F := Ideal)) v (iotaInDim S8x128x32x32x4 32 4)
      (constant (F := Ideal) S_ .f32 4286578688#32) (constantI S_ 32 0#32)
      reducesTo_S8x128x32x32x4_S8x128x32x32_d4 h_S_ j).2 := rfl

/-- The number of a window's largest element is the fold's number of its four elements. -/
theorem best_apply (v : Vec Ideal S8x128x32x32x4 .f32) (b : Fin 8) (c : Fin 128) (r w : Fin 32) :
    best v (ix4 b c r w) = number fun k => v (ix5 b c r w k) := by
  rw [best_def]
  exact argReduce_fold _ _ _ _ _ _ _ _ _ _ rfl rfl _ (fiber v b c r w)

end Cert.ReferenceIdeal.Pool
end
-- ==== Proof.Reference.lean ====
/-
  The reference, read at an index: at batch, pooling channel, value channel and window, it is the value channel's
  element of the window at the number of the pooling channel's largest element.
-/
module

public import proofs.«01_k».proof.Proof.Argmax
public import proofs.«01_k».proof.Proof.Array
public import Idealize.ShloMosaic.Lib.Claim
public import Idealize.ShloMosaic.Lib.Pointwise

@[expose] public section

set_option maxRecDepth 16384

noncomputable section

namespace Cert.ReferenceIdeal.Pool

open Cert.ReferenceIdeal Cert.ReferenceIdeal.Gen Idealize.ShloMosaic Idealize.ShloMosaic.TcCoe Idealize.SL.Sem
open Cert.KernelIdeal.Window (cell)

/-- The flattened images. -/
def flat (x : Vec Ideal S8x128x64x64 .f32) : Vec Ideal S8x128x4096 .f32 :=
  shapeCast S8x128x4096 x shapeCasts_S8x128x64x64_S8x128x4096

/-- The images cut into windows, the four elements of each window last. -/
def windows (x : Vec Ideal S8x128x64x64 .f32) : Vec Ideal S8x128x32x32x4 .f32 :=
  shapeCast S8x128x32x32x4 (transpose S8x128x32x32x2x2 [0, 1, 2, 4, 3, 5]
    (shapeCast S8x128x32x2x32x2 x shapeCasts_S8x128x64x64_S8x128x32x2x32x2)
    transposes_S8x128x32x2x32x2_S8x128x32x32x2x2_0_1_2_4_3_5) shapeCasts_S8x128x32x32x2x2_S8x128x32x32x4

/-- Window element `k` at window row `r` and window column `w` is the flattened image at its cell. -/
theorem windows_apply (x : Vec Ideal S8x128x64x64 .f32) (b : Fin 8) (c : Fin 128) (r w : Fin 32) (k : Fin 4)
    (i : Fin 1024) (hi : (i : Nat) = 32 * r + w) : windows x (ix5 b c r w k) = flat x (ix3 b c (cell k i)) := by
  unfold windows flat
  pointwise
  exact congrArg₂ (fun p q => x (ix4 b c p q)) (Fin.ext (by simp only [cell]; omega)) (Fin.ext (by simp only [cell]; omega))

/-- Division by two, rounded down. -/
def half (a : IVec S8x128x32x32 32) : IVec S8x128x32x32 32 :=
  let two : IVec S8x128x32x32 32 := broadcastInDim S8x128x32x32 ![] bcast_S_S8x128x32x32 (constantI S_ 32 2#32)
  let zero : IVec S8x128x32x32 32 := broadcastInDim S8x128x32x32 ![] bcast_S_S8x128x32x32 (constantI S_ 32 0#32)
  let one : IVec S8x128x32x32 32 := broadcastInDim S8x128x32x32 ![] bcast_S_S8x128x32x32 (constantI S_ 32 1#32)
  select (andi (cmpi .ne (signi a) (broadcastInDim S8x128x32x32 ![] bcast_S_S8x128x32x32 (signi (constantI S_ 32 2#32))))
    (cmpi .ne (Host.remsi a two) zero)) (subi (Host.divsi a two) one) (Host.divsi a two)

/-- The divisor of the remainder: two, were it not zero. -/
def divisor : IVec S_ 32 := select (cmpi .eq (constantI S_ 32 2#32) (constantI S_ 32 0#32)) (constantI S_ 32 1#32) (constantI S_ 32 2#32)

/-- The remainder by two, of the divisor's sign. -/
def rest (a : IVec S8x128x32x32 32) : IVec S8x128x32x32 32 :=
  let d : IVec S8x128x32x32 32 := broadcastInDim S8x128x32x32 ![] bcast_S_S8x128x32x32 divisor
  let zero : IVec S8x128x32x32 32 := broadcastInDim S8x128x32x32 ![] bcast_S_S8x128x32x32 (constantI S_ 32 0#32)
  select (andi (cmpi .ne (cmpi .slt (Host.remsi a d) zero)
      (broadcastInDim S8x128x32x32 ![] bcast_S_S8x128x32x32 (cmpi .slt divisor (constantI S_ 32 0#32))))
    (cmpi .ne (Host.remsi a d) zero)) (addi (Host.remsi a d) d) (Host.remsi a d)

/-- Half of one of the numbers 0 to 3. -/
theorem half_apply (a : IVec S8x128x32x32 32) (j : S8x128x32x32.Idx) (k : Fin 4) (h : a j = BitVec.ofNat 32 k) :
    half a j = BitVec.ofNat 32 (k / 2) := by
  show Scalar.select (IntOp.andi (IntOp.cmpi .ne (if a j = 0 then 0 else if (a j).msb then -1 else 1)
      (if (2#32) = 0 then 0 else if (2#32).msb then -1 else 1)) (IntOp.cmpi .ne (IntOp.remsi .host (a j) 2#32) 0#32))
    (IntOp.subi (IntOp.divsi .host (a j) 2#32) 1#32) (IntOp.divsi .host (a j) 2#32) = _
  rw [h]
  clear h
  revert k
  decide

/-- The remainder by two of one of the numbers 0 to 3. -/
theorem rest_apply (a : IVec S8x128x32x32 32) (j : S8x128x32x32.Idx) (k : Fin 4) (h : a j = BitVec.ofNat 32 k) :
    rest a j = BitVec.ofNat 32 (k % 2) := by
  let d : BitVec 32 := Scalar.select (IntOp.cmpi .eq 2#32 0#32) 1#32 2#32
  show Scalar.select (IntOp.andi (IntOp.cmpi .ne (IntOp.cmpi .slt (IntOp.remsi .host (a j) d) 0#32) (IntOp.cmpi .slt d 0#32))
      (IntOp.cmpi .ne (IntOp.remsi .host (a j) d) 0#32))
    (IntOp.addi (IntOp.remsi .host (a j) d) d) (IntOp.remsi .host (a j) d) = _
  rw [h]
  subst d
  clear h
  revert k
  decide

/-- Where each window's largest element lies in the flattened image: twice the window row plus the half, times 64, plus
    twice the window column plus the remainder. -/
def position (a : IVec S8x128x32x32 32) : IVec S8x128x1024 32 :=
  shapeCast S8x128x1024 (addi (muli (addi (broadcastInDim S8x128x32x32 ![0, 1, 2, 3] bcast_S1x1x32x1_S8x128x32x32_0_1_2_3
      (muli (shapeCast S1x1x32x1 (iotaInDim S32 32 0) shapeCasts_S32_S1x1x32x1)
        (broadcastInDim S1x1x32x1 ![] bcast_S_S1x1x32x1 (constantI S_ 32 2#32)))) (half a))
    (broadcastInDim S8x128x32x32 ![] bcast_S_S8x128x32x32 (constantI S_ 32 64#32)))
    (addi (broadcastInDim S8x128x32x32 ![0, 1, 2, 3] bcast_S1x1x1x32_S8x128x32x32_0_1_2_3
      (muli (shapeCast S1x1x1x32 (iotaInDim S32 32 0) shapeCasts_S32_S1x1x1x32)
        (broadcastInDim S1x1x1x32 ![] bcast_S_S1x1x1x32 (constantI S_ 32 2#32)))) (rest a)))
    shapeCasts_S8x128x32x32_S8x128x1024

/-- The position at window `i` is the cell of the element numbered there. -/
theorem position_apply (a : IVec S8x128x32x32 32) (b : Fin 8) (c : Fin 128) (i : Fin 1024) (k : Fin 4)
    (h : a (ix4 b c ⟨i / 32, by omega⟩ ⟨i % 32, by omega⟩) = BitVec.ofNat 32 k) :
    position a (ix3 b c i) = BitVec.ofNat 32 (cell k i) := by
  unfold position
  pointwise
  rw [half_apply a _ k h, rest_apply a _ k h]
  apply BitVec.eq_of_toNat_eq
  simp only [IntOp.addi, IntOp.muli, BitVec.toNat_add, BitVec.toNat_mul, BitVec.toNat_ofNat, cell]
  omega

/-- A negative position counts from the end. -/
def wrap (p : IVec S8x128x1024 32) : IVec S8x128x1024x1 32 :=
  broadcastInDim S8x128x1024x1 ![0, 1, 2] bcast_S8x128x1024_S8x128x1024x1_0_1_2
    (select (cmpi .slt p (broadcastInDim S8x128x1024 ![] bcast_S_S8x128x1024 (constantI S_ 32 0#32)))
      (addi p (broadcastInDim S8x128x1024 ![] bcast_S_S8x128x1024 (constantI S_ 32 4096#32))) p)

/-- The wrapped position reads the position and, when it is negative, adds the image's size. -/
theorem wrap_apply (p : IVec S8x128x1024 32) (b : Fin 8) (c : Fin 128) (i : Fin 1024) :
    wrap p (ix4 b c i 0) = Scalar.select (IntOp.cmpi .slt (p (ix3 b c i)) 0#32)
      (IntOp.addi (p (ix3 b c i)) 4096#32) (p (ix3 b c i)) := by
  unfold wrap
  pointwise

/-- A position inside the image is not negative and stays. -/
theorem wrapped (n : Fin 4096) : Scalar.select (IntOp.cmpi .slt (BitVec.ofNat 32 n) 0#32)
    (IntOp.addi (BitVec.ofNat 32 n) 4096#32) (BitVec.ofNat 32 n) = BitVec.ofNat 32 n := by
  have h : IntOp.cmpi .slt (BitVec.ofNat 32 n) 0#32 = 0#1 := by
    revert n; decide +kernel
  rw [h]
  rfl

/-- A gather whose start is a position inside the image reads the value channel there. -/
theorem gather_apply (f : Vec Ideal S8x128x4096 .f32) (p : IVec S8x128x1024x1 32) (b : Fin 8) (cp cv : Fin 128)
    (i : Fin 1024) (n : Fin 4096) (h : p (ix4 b cp i 0) = BitVec.ofNat 32 n) :
    Host.gather gather_S8x128x4096_S8x128x1024x1_S8x128x128x1024_1_2_0_0_2_3_11281 f p (ix4 b cv cp i)
      = f (ix3 b cv n) := by
  have clamp : ∀ n : Fin 4096, min (BitVec.ofNat 32 n).toInt.toNat (4096 - 1) = n := by decide +kernel
  unfold Host.gather
  congr 1
  funext a
  apply Fin.ext
  match a with
  | ⟨0, _⟩ =>
    show 0 + (b : Nat) + 0 = b
    omega
  | ⟨1, _⟩ =>
    show 0 + 0 + (cv : Nat) = cv
    omega
  | ⟨2, _⟩ =>
    have e : gather_S8x128x4096_S8x128x1024x1_S8x128x128x1024_1_2_0_0_2_3_11281.siIdx (ix4 b cv cp i) ⟨0, by decide⟩
        = ix4 b cp i 0 := by
      funext a
      match a with
      | ⟨0, _⟩ => rfl
      | ⟨1, _⟩ => rfl
      | ⟨2, _⟩ => rfl
      | ⟨3, _⟩ => rfl
    show min (p (gather_S8x128x4096_S8x128x1024x1_S8x128x128x1024_1_2_0_0_2_3_11281.siIdx (ix4 b cv cp i) ⟨0, by decide⟩)).toInt.toNat
      (4096 - 1) + 0 + 0 = n
    rw [e, h, clamp]
    rfl

/-- The reference's result from its positions: every channel's value there. -/
def collect (f : Vec Ideal S8x128x4096 .f32) (p : IVec S8x128x1024 32) : Vec Ideal S8x128x128x1024 .f32 :=
  transpose S8x128x128x1024 [0, 2, 1, 3]
    (Host.gather gather_S8x128x4096_S8x128x1024x1_S8x128x128x1024_1_2_0_0_2_3_11281 f (wrap p))
    transposes_S8x128x128x1024_S8x128x128x1024_0_2_1_3

/-- The result at a position inside the image reads the value channel there. -/
theorem collect_apply (f : Vec Ideal S8x128x4096 .f32) (p : IVec S8x128x1024 32) (b : Fin 8) (cp cv : Fin 128)
    (i : Fin 1024) (n : Fin 4096) (h : p (ix3 b cp i) = BitVec.ofNat 32 n) :
    collect f p (ix4 b cp cv i) = f (ix3 b cv n) := by
  unfold collect
  pointwise
  exact gather_apply f _ b cp cv i n ((wrap_apply p b cp i).trans (by rw [h]; exact wrapped n))

/-- The reference's result as one function of the images. -/
def result (x : Vec Ideal S8x128x64x64 .f32) : Vec Ideal S8x128x128x1024 .f32 :=
  collect (flat x) (position (best (windows x)))

end Cert.ReferenceIdeal.Pool
end
-- ==== Proof.Run.lean ====
/-
  The reference's run: its result array is the function of its argument that the index lemmas read.
-/
module

public import proofs.«01_k».proof.Proof.Reference
public import Idealize.ShloMosaic.Lib.Claim

@[expose] public section

set_option maxRecDepth 16384

noncomputable section

namespace Cert.ReferenceIdeal.Pool

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- After the reference has run, its result is that function of its argument, and the argument is unchanged. -/
theorem run : θ_run (defs (F := Ideal)) (onTc (τ := τ) (main (F := Ideal))) ⟨m, fun _ => 0, ρ⟩ fun r => ∀ c : Dev nD,
      r.2.mem ((c : Thread nD τ).loc main_v30) = result (m ((c : Thread nD τ).loc main_arg0))
      ∧ r.2.mem ((c : Thread nD τ).loc main_arg0) = m ((c : Thread nD τ).loc main_arg0) := by
  hlo_run
  simp only [StableHlo.TRef.ofBuf_toBuf]
  generalize m (c.tc.loc main_arg0) = x
  have e0 (y : Vec Ideal S8x128x32x32x4 .f32) :
      (StableHlo.TRef.of (T := ⟨S8x128x32x32x4, .f32⟩) main_v2 rfl (by decide) (by decide)).ofBuf (Val := Elt Ideal) y = y := rfl
  have e1 (y : IVec S_ 32) :
      (StableHlo.TRef.of (T := ⟨S_, .i32⟩) main_c rfl (by decide) (by decide)).ofBuf (Val := Elt Ideal) y = y := rfl
  have e2 (y : IVec S_ 32) :
      (StableHlo.TRef.of (T := ⟨S_, .i32⟩) main_c_0 rfl (by decide) (by decide)).ofBuf (Val := Elt Ideal) y = y := rfl
  have e3 : (fun i => shapeCast main_v2.ty.shape
      (transpose S8x128x32x32x2x2 [0, 1, 2, 4, 3, 5] (fun i => shapeCast main_v0.ty.shape x shapeCasts_S8x128x64x64_S8x128x32x2x32x2 i)
        transposes_S8x128x32x2x32x2_S8x128x32x32x2x2_0_1_2_4_3_5) shapeCasts_S8x128x32x32x2x2_S8x128x32x32x4 i) = windows x := rfl
  rw [e3]
  simp only [e0, e1, e2]
  rw [← best_def]
  unfold result
  generalize best (windows x) = a
  rfl

end Cert.ReferenceIdeal.Pool
end
-- ==== Proof.Equal.lean ====
/-
  The kernel's pooled array is the reference's result, on the extended reals.
-/
module

public import proofs.«01_k».proof.Proof.Reference

@[expose] public section

set_option maxRecDepth 16384

noncomputable section

namespace Cert.ReferenceIdeal.Pool

open Cert.ReferenceIdeal Cert.ReferenceIdeal.Gen Idealize.ShloMosaic
open Cert.KernelIdeal.Window (cell choose pooled)

/-- At every index both arrays hold the value channel's window element at the number of the pooling channel's largest. -/
theorem pooled_eq (x : Vec Ideal S8x128x64x64 .f32) : pooled (flat x) = result x := by
  have key (b : Fin 8) (cp cv : Fin 128) (i : Fin 1024) : pooled (flat x) (ix4 b cp cv i) = result x (ix4 b cp cv i) := by
    obtain ⟨k, hk, hc⟩ := choose_number fun j => flat x (ix3 b cp (cell j i))
    have hb : best (windows x) (ix4 b cp ⟨i / 32, by omega⟩ ⟨i % 32, by omega⟩) = BitVec.ofNat 32 k := by
      rw [best_apply, ← hk]
      exact congrArg number (funext fun j => windows_apply x b cp _ _ j i (Nat.div_add_mod i 32).symm)
    exact (hc _).trans (collect_apply _ _ b cp cv i (cell k i) (position_apply _ b cp i k hb)).symm
  funext i
  idx_vars i
  exact key i0 i1 i2 i3

end Cert.ReferenceIdeal.Pool
end
-- ==== Proof.lean ====
/-
  The five claims: the kernel, its idealization and the reference each end with their arguments unchanged and all
  counters at zero; the idealization rewrites nothing; and on the extended reals, from equal arguments, the kernel and
  the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Array
public import proofs.«01_k».proof.Proof.Run
public import proofs.«01_k».proof.Proof.Equal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its argument unchanged and, having no semaphores, ends with every counter at zero. -/
theorem frame_reference : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (Cert.ReferenceIdeal.Pool.run m ρ)

/-- From equal arguments the kernel and the reference both end with the pooled array. -/
theorem equal_results : Cert.algebraic_KernelIdeal_ReferenceIdeal (hKernelIdeal := Cert.KernelIdeal.Gen.facts)
    (hReferenceIdeal := Cert.ReferenceIdeal.Gen.facts) := fun m ρ m' ρ' _ hm =>
  ⟨fun c => Cert.KernelIdeal.Window.pooled (Cert.KernelIdeal.Window.images m c), Cert.KernelIdeal.Window.run_pooled m ρ,
    (θ_run _ _ _).mono (fun _ h c => ⟨(h c).1.trans
      ((congrArg Cert.ReferenceIdeal.Pool.result (hm c)).trans (Cert.ReferenceIdeal.Pool.pooled_eq _).symm), (h c).2⟩)
      (Cert.ReferenceIdeal.Pool.run m' ρ')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  equal_results⟩

end Cert.Proof

end
